-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v2) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S16384x512 : Shape := ⟨2, ![16384, 512]⟩
abbrev S256x512 : Shape := ⟨2, ![256, 512]⟩
abbrev S128x512 : Shape := ⟨2, ![128, 512]⟩
abbrev S_ : Shape := ⟨0, ![]⟩
abbrev S2x512 : Shape := ⟨2, ![2, 512]⟩
abbrev S32x512 : Shape := ⟨2, ![32, 512]⟩

abbrev nBuf : Table → Nat
  | .hbm => 3
  | .shared => 1
  | _ => 0

abbrev bufTy : (tb : Table) → Fin (nBuf tb) → BufTy
  | .hbm, ⟨0, _⟩ => ⟨S16384x512, .f32⟩
  | .hbm, ⟨1, _⟩ => ⟨S16384x512, .f32⟩
  | .hbm, ⟨2, _⟩ => ⟨S256x512, .f32⟩
  | .shared, ⟨0, _⟩ => ⟨S128x512, .f32⟩
  | _, _ => ⟨S16384x512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scs : Ref sig .scScalar := ⟨.hbm, 0, rfl⟩
abbrev main_arg1_scs : Ref sig .scScalar := ⟨.hbm, 1, rfl⟩
abbrev main_v0_scs : Ref sig .scScalar := ⟨.hbm, 2, rfl⟩
abbrev cc0_scratch0 : Ref sig .scScalar := ⟨.shared, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S16384x512 : Shape := ⟨2, ![16384, 512]⟩
abbrev S128 : Shape := ⟨1, ![128]⟩
abbrev S128x512 : Shape := ⟨2, ![128, 512]⟩
abbrev S_ : Shape := ⟨0, ![]⟩
abbrev S128x1 : Shape := ⟨2, ![128, 1]⟩
abbrev S1 : Shape := ⟨1, ![1]⟩
abbrev S1x1 : Shape := ⟨2, ![1, 1]⟩
abbrev S256x512 : Shape := ⟨2, ![256, 512]⟩

abbrev nBuf : Space → Nat
  | .hbm => 28
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S128, .i32⟩
  | .hbm, ⟨3, _⟩ => ⟨S128x512, .f32⟩
  | .hbm, ⟨4, _⟩ => ⟨S_, .i32⟩
  | .hbm, ⟨5, _⟩ => ⟨S128, .i32⟩
  | .hbm, ⟨6, _⟩ => ⟨S128, .i1⟩
  | .hbm, ⟨7, _⟩ => ⟨S_, .i32⟩
  | .hbm, ⟨8, _⟩ => ⟨S128, .i32⟩
  | .hbm, ⟨9, _⟩ => ⟨S128, .i32⟩
  | .hbm, ⟨10, _⟩ => ⟨S128, .i32⟩
  | .hbm, ⟨11, _⟩ => ⟨S128x1, .i32⟩
  | .hbm, ⟨12, _⟩ => ⟨S1, .i32⟩
  | .hbm, ⟨13, _⟩ => ⟨S_, .i32⟩
  | .hbm, ⟨14, _⟩ => ⟨S128x1, .i32⟩
  | .hbm, ⟨15, _⟩ => ⟨S128x1, .i1⟩
  | .hbm, ⟨16, _⟩ => ⟨S1x1, .i32⟩
  | .hbm, ⟨17, _⟩ => ⟨S128x1, .i32⟩
  | .hbm, ⟨18, _⟩ => ⟨S128x1, .i1⟩
  | .hbm, ⟨19, _⟩ => ⟨S128x1, .i1⟩
  | .hbm, ⟨20, _⟩ => ⟨S_, .i1⟩
  | .hbm, ⟨21, _⟩ => ⟨S128, .i1⟩
  | .hbm, ⟨22, _⟩ => ⟨S128x512, .f32⟩
  | .hbm, ⟨23, _⟩ => ⟨S128x512, .i1⟩
  | .hbm, ⟨24, _⟩ => ⟨S_, .f32⟩
  | .hbm, ⟨25, _⟩ => ⟨S128x512, .f32⟩
  | .hbm, ⟨26, _⟩ => ⟨S128x512, .f32⟩
  | .hbm, ⟨27, _⟩ => ⟨S256x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_v2 : Ref sig .tc := ⟨.hbm, 27, rfl⟩

abbrev nD : Nat := 1
abbrev τ : Topo := Topo.v7x

variable {F : FTy → Type} [FloatOps F]
-- ==== Proof.Loops.lean ====
/-
  The kernel's one long line of memory operations as four short loops: the copy of the first 128 rows
  of `layer1`, the 64 copies of row pairs of `layer0` into the shared scratch (four groups of sixteen,
  each on its own semaphore), the four drains, each followed by the copy of the drained 32 rows to the
  result, and the last waits.
-/
module

public import proofs.«01_k».proof.Proof.Gen.KernelIdeal.Skeleton

@[expose] public section

noncomputable section

namespace Cert.Proof.Loops

open Cert.KernelIdeal Cert.KernelIdeal.Gen
open Idealize.ShloMosaic Idealize.SL.Sem

variable {F : FTy → Type}

/-- `f 0`, then `f 1`, and so on up to `f (n - 1)`, then `k`. -/
def reps {A : Type*} : (n : ℕ) → (Fin n → A → A) → A → A
  | 0, _, k => k
  | n + 1, f, k => f 0 (reps n (fun j => f j.succ) k)

/-! ## The rows each copy names -/

theorem in_src (g : Fin 4) (j : Fin 16) :
    ∀ a, (![4 * (16 * g.val + j.val), 0] : Fin 2 → Nat) a + S2x512.size a ≤ S16384x512.size a :=
  Rect.inb₂ (by have := g.isLt; have := j.isLt; show 4 * (16 * g.val + j.val) + 2 ≤ 16384; omega) (Nat.le_refl 512)
theorem in_dst (g : Fin 4) (j : Fin 16) :
    ∀ a, (![2 * (16 * g.val + j.val), 0] : Fin 2 → Nat) a + S2x512.size a ≤ S128x512.size a :=
  Rect.inb₂ (by have := g.isLt; have := j.isLt; show 2 * (16 * g.val + j.val) + 2 ≤ 128; omega) (Nat.le_refl 512)
theorem in_buf (g : Fin 4) : ∀ a, (![32 * g.val, 0] : Fin 2 → Nat) a + S32x512.size a ≤ S128x512.size a :=
  Rect.inb₂ (by have := g.isLt; show 32 * g.val + 32 ≤ 128; omega) (Nat.le_refl 512)
theorem in_out (g : Fin 4) : ∀ a, (![128 + 32 * g.val, 0] : Fin 2 → Nat) a + S32x512.size a ≤ S256x512.size a :=
  Rect.inb₂ (by have := g.isLt; show 128 + 32 * g.val + 32 ≤ 256; omega) (Nat.le_refl 512)

/-- Rows 0 to 127 of `layer1`, -/
def headSrc : Memref sig .scScalar .hbm S128x512 .f32 :=
  (Memref.whole main_arg0_scs).slice (Rect.unit (s := S16384x512) ![0, 0] S128x512.size inb_S16384x512_S128x512_0_0) (fun _ => rfl)
/-- and of the result. -/
def headDst : Memref sig .scScalar .hbm S128x512 .f32 :=
  (Memref.whole main_v0_scs).slice (Rect.unit (s := S256x512) ![0, 0] S128x512.size inb_S256x512_S128x512_0_0) (fun _ => rfl)
/-- The two rows of `layer0` that pair `j` of group `g` copies, -/
def srcM (g : Fin 4) (j : Fin 16) : Memref sig .scScalar .hbm S2x512 .f32 :=
  (Memref.whole main_arg1_scs).slice (Rect.unit (s := S16384x512) ![4 * (16 * g.val + j.val), 0] S2x512.size (in_src g j)) (fun _ => rfl)
/-- and the two rows of the scratch it fills. -/
def dstM (g : Fin 4) (j : Fin 16) : Memref sig .scScalar .shared S2x512 .f32 :=
  (Memref.whole cc0_scratch0).slice (Rect.unit (s := S128x512) ![2 * (16 * g.val + j.val), 0] S2x512.size (in_dst g j)) (fun _ => rfl)
/-- Group `g`'s 32 rows of the scratch, -/
def bufM (g : Fin 4) : Memref sig .scScalar .shared S32x512 .f32 :=
  (Memref.whole cc0_scratch0).slice (Rect.unit (s := S128x512) ![32 * g.val, 0] S32x512.size (in_buf g)) (fun _ => rfl)
/-- and the 32 rows of the result they go to. -/
def outM (g : Fin 4) : Memref sig .scScalar .hbm S32x512 .f32 :=
  (Memref.whole main_v0_scs).slice (Rect.unit (s := S256x512) ![128 + 32 * g.val, 0] S32x512.size (in_out g)) (fun _ => rfl)

/-- Group `g`'s semaphore. -/
def gsem (g : Fin 4) : DmaSem sig := ⟨1 + g.val, by have := g.isLt; show 1 + g.val < 6; omega⟩

/-! ## The steps and the loops -/

section Steps

variable (L : grid0.Coords)

/-- Programs of the scalar subcore at grid point `L`. -/
abbrev PR (F : FTy → Type) (L : grid0.Coords) : Type 1 := Prog (TpuEff nD τ sig (Elt F) Λ₀ (.scScalar ((L 0).castLE hcore0))) PUnit

def headIssue (k : PR F L) : PR F L :=
  .op (.enqueueDma headSrc (.here headDst) (.dma cc0_scratch1.sem) (View.wordExact_bits rfl) (View.wordExact_bits rfl) ⟨Or.inl rfl, trivial⟩) fun _ => k
def headWait (k : PR F L) : PR F L :=
  .op (.waitDma2 cc0_scratch1.sem headSrc headDst (View.wordExact_bits rfl) (View.wordExact_bits rfl)) fun _ => k
def pairIssue (g : Fin 4) (j : Fin 16) (k : PR F L) : PR F L :=
  .op (.enqueueDma (srcM g j) (.here (dstM g j)) (.dma (gsem g)) (View.wordExact_bits rfl) (View.wordExact_bits rfl) ⟨Or.inl rfl, trivial⟩) fun _ => k
def pairWait (g : Fin 4) (j : Fin 16) (k : PR F L) : PR F L :=
  .op (.waitDma2 (gsem g) (srcM g j) (dstM g j) (View.wordExact_bits rfl) (View.wordExact_bits rfl)) fun _ => k
def outIssue (g : Fin 4) (k : PR F L) : PR F L :=
  .op (.enqueueDma (bufM g) (.here (outM g)) (.dma cc0_scratch6.sem) (View.wordExact_bits rfl) (View.wordExact_bits rfl) ⟨Or.inl rfl, trivial⟩) fun _ => k
def outWait (g : Fin 4) (k : PR F L) : PR F L :=
  .op (.waitDma2 cc0_scratch6.sem (bufM g) (outM g) (View.wordExact_bits rfl) (View.wordExact_bits rfl)) fun _ => k

/-- The kernel's body in loops. -/
def loops : PR F L :=
  headIssue L (reps 4 (fun g => reps 16 (pairIssue L g))
    (reps 4 (fun g k => reps 16 (pairWait L g) (outIssue L g k))
      (headWait L (reps 4 (outWait L) (.ret ⟨⟩)))))

set_option maxRecDepth 65536 in
/-- The printed body is those loops, by unfolding. -/
theorem body_eq_loops :
    cc0__body (F := F) L (Memref.whole main_arg0_scs) (Memref.isWhole_whole _) (Memref.whole main_arg1_scs) (Memref.isWhole_whole _)
      (Memref.whole main_v0_scs) (Memref.isWhole_whole _) (Memref.whole cc0_scratch0) (Memref.isWhole_whole _)
      cc0_scratch1 cc0_scratch2 cc0_scratch3 cc0_scratch4 cc0_scratch5 cc0_scratch6 = loops (F := F) L := rfl

end Steps

end Cert.Proof.Loops

end
-- ==== Proof.Rows.lean ====
/-
  The values the copies move: what the shared scratch and the result hold once every copy has landed, the
  rows each copy names, and that what one copy writes is what the arrays are to hold there.
-/
module

public import proofs.«01_k».proof.Proof.Loops
public import Idealize.ShloMosaic.Lib.ValueIdx
public import Idealize.ShloMosaic.Lib.Pipeline.ValueKit

@[expose] public section

noncomputable section

namespace Cert.Proof.Rows

open Cert.KernelIdeal Cert.KernelIdeal.Gen Cert.Proof.Loops
open Idealize.ShloMosaic Idealize.SL.Sem

/-! ## What the arrays are to hold -/

section Values

variable {A : Type}

/-- Row `r` of the gathered half is row `pick r` of `layer0`: two rows out of every four. -/
def pick (r : ℕ) : ℕ := 4 * (r / 2) + r % 2

theorem pick_lt {r : ℕ} (h : r < 128) : pick r < 16384 := by unfold pick; omega

/-- The scratch once the 64 row pairs of `layer0` (`x`) have landed. -/
def scr (x : S16384x512.Idx → A) : S128x512.Idx → A := fun i => x (ValueIdx.ix2 (⟨pick (i 0).val, pick_lt (i 0).isLt⟩ : Fin 16384) (i 1 : Fin 512))

/-- The result: 128 rows of `layer1` (`y`), then the 128 picked rows of `layer0` (`x`). -/
def res (y x : S16384x512.Idx → A) : S256x512.Idx → A := fun i =>
  if h : (i 0).val < 128 then y (ValueIdx.ix2 (⟨(i 0).val, by omega⟩ : Fin 16384) (i 1 : Fin 512))
  else x (ValueIdx.ix2 (⟨pick ((i 0).val - 128), pick_lt (by have : (i 0).val < 256 := (i 0).isLt; omega)⟩ : Fin 16384) (i 1 : Fin 512))

end Values

/-! ## The rows, as sets of elements -/

theorem mem_rows {R n o : ℕ} {inb : ∀ a, (![o, 0] : Fin 2 → Nat) a + (⟨2, ![n, 512]⟩ : Shape).size a ≤ (⟨2, ![R, 512]⟩ : Shape).size a}
    (i : (⟨2, ![R, 512]⟩ : Shape).Idx) :
    i ∈ (Rect.unit (s := ⟨2, ![R, 512]⟩) ![o, 0] (⟨2, ![n, 512]⟩ : Shape).size inb).set ↔ o ≤ (i 0).val ∧ (i 0).val < o + n := by
  rw [Rect.mem_set_unit]
  refine ⟨fun h => h 0, fun h => Fin.forall_fin_two.mpr ⟨h, Nat.zero_le _, ?_⟩⟩
  have : (i 1).val < 512 := (i 1).isLt
  show (i 1).val < 0 + 512
  omega

abbrev headSet : Finset S256x512.Idx := headDst.view.set
abbrev srcSet (g : Fin 4) (j : Fin 16) : Finset S16384x512.Idx := (srcM g j).view.set
abbrev dstSet (g : Fin 4) (j : Fin 16) : Finset S128x512.Idx := (dstM g j).view.set
abbrev bufSet (g : Fin 4) : Finset S128x512.Idx := (bufM g).view.set
abbrev outSet (g : Fin 4) : Finset S256x512.Idx := (outM g).view.set
abbrev topSet : Finset S16384x512.Idx := headSrc.view.set

theorem mem_head (i : S256x512.Idx) : i ∈ headSet ↔ (i 0).val < 128 := by
  rw [show headSet = _ from View.set_slice_whole main_v0_scs _]
  refine (mem_rows i).trans ?_; omega
theorem mem_src (g : Fin 4) (j : Fin 16) (i : S16384x512.Idx) :
    i ∈ srcSet g j ↔ 4 * (16 * g.val + j.val) ≤ (i 0).val ∧ (i 0).val < 4 * (16 * g.val + j.val) + 2 := by
  rw [show srcSet g j = _ from View.set_slice_whole main_arg1_scs _]; exact mem_rows i
theorem mem_dst (g : Fin 4) (j : Fin 16) (i : S128x512.Idx) :
    i ∈ dstSet g j ↔ 2 * (16 * g.val + j.val) ≤ (i 0).val ∧ (i 0).val < 2 * (16 * g.val + j.val) + 2 := by
  rw [show dstSet g j = _ from View.set_slice_whole cc0_scratch0 _]; exact mem_rows i
theorem mem_buf (g : Fin 4) (i : S128x512.Idx) : i ∈ bufSet g ↔ 32 * g.val ≤ (i 0).val ∧ (i 0).val < 32 * g.val + 32 := by
  rw [show bufSet g = _ from View.set_slice_whole cc0_scratch0 _]; exact mem_rows i
theorem mem_out (g : Fin 4) (i : S256x512.Idx) : i ∈ outSet g ↔ 128 + 32 * g.val ≤ (i 0).val ∧ (i 0).val < 128 + 32 * g.val + 32 := by
  rw [show outSet g = _ from View.set_slice_whole main_v0_scs _]; exact mem_rows i

/-- The pairs of one group name different rows of `layer0`, -/
theorem src_disjoint (g : Fin 4) (j j' : Fin 16) (h : j ≠ j') : Disjoint (srcSet g j) (srcSet g j') :=
  Finset.disjoint_left.mpr fun i hi hi' => h (Fin.ext (by rw [mem_src] at hi hi'; omega))
/-- and of the scratch, -/
theorem dst_disjoint (g : Fin 4) (j j' : Fin 16) (h : j ≠ j') : Disjoint (dstSet g j) (dstSet g j') :=
  Finset.disjoint_left.mpr fun i hi hi' => h (Fin.ext (by rw [mem_dst] at hi hi'; omega))
/-- whose rows together are the group's. -/
theorem dst_cover (g : Fin 4) : Finset.univ.biUnion (dstSet g) = bufSet g := by
  ext i
  simp only [Finset.mem_biUnion, Finset.mem_univ, true_and]
  refine ⟨fun ⟨j, hj⟩ => ?_, fun h => ?_⟩
  · rw [mem_dst] at hj; rw [mem_buf]; have := j.isLt; omega
  · rw [mem_buf] at h
    refine ⟨⟨((i 0).val - 32 * g.val) / 2, by omega⟩, ?_⟩
    rw [mem_dst]; dsimp only; omega

/-- All the rows of `layer0` that group `g` reads. -/
def grpSrc (g : Fin 4) : Finset S16384x512.Idx := Finset.univ.biUnion (srcSet g)
theorem mem_grpSrc (g : Fin 4) (i : S16384x512.Idx) (h : i ∈ grpSrc g) : 64 * g.val ≤ (i 0).val ∧ (i 0).val < 64 * g.val + 64 := by
  obtain ⟨j, -, hj⟩ := Finset.mem_biUnion.mp h
  rw [mem_src] at hj; have := j.isLt; omega

/-- Different groups read different rows of `layer0`, -/
theorem grpSrc_disjoint (g g' : Fin 4) (h : g ≠ g') : Disjoint (grpSrc g) (grpSrc g') :=
  Finset.disjoint_left.mpr fun i hi hi' => h (Fin.ext (by have := mem_grpSrc _ _ hi; have := mem_grpSrc _ _ hi'; omega))
/-- fill different rows of the scratch, -/
theorem buf_disjoint (g g' : Fin 4) (h : g ≠ g') : Disjoint (bufSet g) (bufSet g') :=
  Finset.disjoint_left.mpr fun i hi hi' => h (Fin.ext (by rw [mem_buf] at hi hi'; omega))
/-- all of them together, -/
theorem buf_cover : Finset.univ.biUnion bufSet = Finset.univ := by
  ext i
  have hi : (i 0).val < 128 := (i 0).isLt
  simp only [Finset.mem_biUnion, Finset.mem_univ, true_and, iff_true]
  refine ⟨⟨(i 0).val / 32, by omega⟩, ?_⟩
  rw [mem_buf]; dsimp only; omega
/-- and different rows of the result, -/
theorem out_disjoint (g g' : Fin 4) (h : g ≠ g') : Disjoint (outSet g) (outSet g') :=
  Finset.disjoint_left.mpr fun i hi hi' => h (Fin.ext (by rw [mem_out] at hi hi'; omega))
/-- none of them among the first 128, -/
theorem head_disjoint : Disjoint headSet (Finset.univ.biUnion outSet) :=
  Finset.disjoint_left.mpr fun i hi hi' => by
    obtain ⟨g, -, hg⟩ := Finset.mem_biUnion.mp hi'
    rw [mem_head] at hi; rw [mem_out] at hg; omega
/-- with which they make up the result. -/
theorem out_cover : headSet ∪ Finset.univ.biUnion outSet = Finset.univ := by
  ext i
  have hi : (i 0).val < 256 := (i 0).isLt
  simp only [Finset.mem_union, Finset.mem_biUnion, Finset.mem_univ, true_and, iff_true]
  by_cases h : (i 0).val < 128
  · exact .inl ((mem_head i).mpr h)
  · refine .inr ⟨⟨((i 0).val - 128) / 32, by omega⟩, ?_⟩
    rw [mem_out]; dsimp only; omega

/-! ## What each copy writes -/

variable {F : FTy → Type}

/-- Where a block of rows from `o` on sits in its array. -/
theorem rows_emb {κ : Kind} (b : Ref sig κ) (off size : Fin b.ty.shape.rank → Nat) (inb) (x : (Rect.unit off size inb).shape.Idx) (a : Fin b.ty.shape.rank) :
    ((((View.whole b).slice (Rect.unit off size inb)).emb x a : Fin _) : Nat) = off a + x a :=
  ValueKit.view_emb_slice_whole_unit_val b off size inb x a

/-- The element of the scratch at `z` of a pair's rows, of a group's rows; of the result at `z` of a group's rows. -/
abbrev dstAt (g : Fin 4) (j : Fin 16) (z : S2x512.Idx) : S128x512.Idx := (dstM g j).view.emb z
abbrev bufAt (g : Fin 4) (z : S32x512.Idx) : S128x512.Idx := (bufM g).view.emb z
abbrev outAt (g : Fin 4) (z : S32x512.Idx) : S256x512.Idx := (outM g).view.emb z

/-- Pair `j` of group `g` writes the scratch's rows as they are to be. -/
theorem pair_lands (g : Fin 4) (j : Fin 16) (x : S16384x512.Idx → Elt F .f32) (f : S128x512.Idx → Elt F .f32) (i : S128x512.Idx) (hi : i ∈ dstSet g j) :
    (dstM g j).view.write (Elt F) f ((srcM g j).view.read (Elt F) x) Finset.univ i = scr x i := by
  obtain ⟨z, -, rfl⟩ := Finset.mem_map.mp hi
  refine (View.write_emb_of_mem (v := (dstM g j).view) f _ (Finset.mem_univ z)).trans ?_
  show x _ = x _
  refine congrArg x (funext fun a => Fin.ext ?_)
  have hz : (z 0).val < 2 := (z 0).isLt
  have e0 : (dstAt g j z 0).val = 2 * (16 * g.val + j.val) + (z 0).val := rows_emb cc0_scratch0 _ _ (in_dst g j) z 0
  fin_cases a
  · refine (rows_emb main_arg1_scs _ _ (in_src g j) z 0).trans ?_
    show 4 * (16 * g.val + j.val) + (z 0).val = pick (dstAt g j z 0).val
    rw [e0]; unfold pick; omega
  · refine (rows_emb main_arg1_scs _ _ (in_src g j) z 1).trans ?_
    exact (rows_emb cc0_scratch0 _ _ (in_dst g j) z 1).symm

/-- Group `g`'s copy out of a scratch that is as it is to be writes the result's rows as they are to be. -/
theorem out_lands (g : Fin 4) (y x : S16384x512.Idx → Elt F .f32) (f : S256x512.Idx → Elt F .f32) (i : S256x512.Idx) (hi : i ∈ outSet g) :
    (outM g).view.write (Elt F) f ((bufM g).view.read (Elt F) (scr x)) Finset.univ i = res y x i := by
  obtain ⟨z, -, rfl⟩ := Finset.mem_map.mp hi
  refine (View.write_emb_of_mem (v := (outM g).view) f _ (Finset.mem_univ z)).trans ?_
  have e0 : (outAt g z 0).val = 128 + 32 * g.val + (z 0).val := rows_emb main_v0_scs _ _ (in_out g) z 0
  have b0 : (bufAt g z 0).val = 32 * g.val + (z 0).val := rows_emb cc0_scratch0 _ _ (in_buf g) z 0
  show scr x (bufAt g z) = res y x (outAt g z)
  unfold res
  rw [dif_neg (by rw [e0]; omega)]
  refine congrArg x (funext fun a => Fin.ext ?_)
  fin_cases a
  · show pick (bufAt g z 0).val = pick ((outAt g z 0).val - 128)
    rw [e0, b0]; congr 1; omega
  · exact (rows_emb cc0_scratch0 _ _ (in_buf g) z 1).trans (rows_emb main_v0_scs _ _ (in_out g) z 1).symm

/-- The copy of `layer1`'s first rows writes the result's first rows as they are to be. -/
theorem head_lands (y x : S16384x512.Idx → Elt F .f32) (f : S256x512.Idx → Elt F .f32) (i : S256x512.Idx) (hi : i ∈ headSet) :
    headDst.view.write (Elt F) f (headSrc.view.read (Elt F) y) Finset.univ i = res y x i := by
  have hlt := (mem_head i).mp hi
  obtain ⟨z, -, rfl⟩ := Finset.mem_map.mp hi
  refine (View.write_emb_of_mem (v := headDst.view) f _ (Finset.mem_univ z)).trans ?_
  unfold res
  rw [dif_pos hlt]
  show y _ = y _
  refine congrArg y (funext fun a => Fin.ext ?_)
  fin_cases a
  · exact (rows_emb main_arg0_scs _ _ inb_S16384x512_S128x512_0_0 z 0).trans (rows_emb main_v0_scs _ _ inb_S256x512_S128x512_0_0 z 0).symm
  · exact (rows_emb main_arg0_scs _ _ inb_S16384x512_S128x512_0_0 z 1).trans (rows_emb main_v0_scs _ _ inb_S256x512_S128x512_0_0 z 1).symm

end Cert.Proof.Rows

end
-- ==== Proof.Steps.lean ====
/-
  Each step of the loops run in the program logic: a copy issued on its semaphore, a wait, and the loops of
  them. A group's sixteen copies are one batch on the group's semaphore, each delivering its two rows of the
  scratch as they are to be and its two rows of `layer0` back; the four copies out are one batch on the last
  semaphore, each delivering its 32 rows of the result as they are to be and its rows of the scratch back.
-/
module

public import proofs.«01_k».proof.Proof.Rows
public import Idealize.ShloMosaic.Lib.SparseCore.Quiescent
public import Idealize.ShloMosaic.Lib.StableHlo.Run
public import Idealize.ShloMosaic.Lib.Pipeline.Kit
public import Idealize.ShloMosaic.Lib.Batch
public import Idealize.ShloMosaic.Lib.Tactic

@[expose] public section

noncomputable section

namespace Cert.Proof.Steps

open Cert.KernelIdeal Cert.KernelIdeal.Gen Cert.Proof.Loops Cert.Proof.Rows

open Idealize.ShloMosaic
open Idealize.ShloMosaic.SparseCore (S V T)
open Idealize.ShloMosaic.SparseCore.Cfg (HIx)
open Idealize.ShloMosaic.Rounds
open Idealize.ShloMosaic.Transfers (Batch Flight MayWaits pending)
open Idealize.SL Idealize.SL.RA Idealize.SL.BI
open scoped Idealize.SL.BI
open Idealize.SL.BI.BIBase Idealize.SL.BI.Laws Idealize.SL.ProofMode Idealize.SL.Sem

variable {F : FTy → Type}

/-! ## The resource algebra: the handshakes' rounds beside the copies' counters -/

abbrev UH : Type := URounds (GSem nD τ sig) ℕ
abbrev UU : Type := UH × Counters

local notation "𝕄" => MT nD τ sig (HIx 1) (Elt F) ℕ UU ℕ

abbrev EC : UEmb Counters (MT nD τ sig (HIx 1) (Elt F) ℕ UU ℕ) := countersEmb (U := UU)

/-! ## Places -/

variable (d : Dev nD) (L : grid0.Coords)

/-- The sequencer's thread at grid point `L`. -/
abbrev thr : Thread nD τ := S d ((L 0).castLE hcore0)

abbrev yLoc : Loc nD τ sig := (SparseCore.T d).loc main_arg0
abbrev xLoc : Loc nD τ sig := (SparseCore.T d).loc main_arg1
abbrev oLoc : Loc nD τ sig := (SparseCore.T d).loc main_v0
abbrev bLoc : Loc nD τ sig := (thr d L).loc cc0_scratch0

variable (y x : S16384x512.Idx → Elt F .f32)

/-- Pair `j` of group `g`: its rows of `layer0`, -/
abbrev srcP (g : Fin 4) (j : Fin 16) : sProp 𝕄 := (srcM g j).view.loc (thr d L) ↦[(srcM g j).view.set]{fullShare} x
/-- and its rows of the scratch, holding `f`. -/
abbrev dstP (f : S128x512.Idx → Elt F .f32) (g : Fin 4) (j : Fin 16) : sProp 𝕄 := (dstM g j).view.loc (thr d L) ↦[(dstM g j).view.set]{fullShare} f
/-- Group `g`'s rows of the scratch, holding `f`, -/
abbrev bufP (f : S128x512.Idx → Elt F .f32) (g : Fin 4) : sProp 𝕄 := (bufM g).view.loc (thr d L) ↦[(bufM g).view.set]{fullShare} f
/-- and of the result. -/
abbrev outP (f : S256x512.Idx → Elt F .f32) (g : Fin 4) : sProp 𝕄 := (outM g).view.loc (thr d L) ↦[(outM g).view.set]{fullShare} f

/-- What pair `j` of group `g` delivers, -/
def pairD (g : Fin 4) (j : Fin 16) : sProp 𝕄 := iprop(dstP d L (scr x) g j ∗ srcP d L x g j)
/-- and what group `g`'s copy out delivers. -/
def outD (g : Fin 4) : sProp 𝕄 := iprop(outP d L (res y x) g ∗ bufP d L (scr x) g)

/-- Elements held can be kept in an invariant. -/
theorem pts_storable (ℓ : Loc nD τ sig) (I : Finset (Idx ℓ)) (q : PosShare TreeShare) (f : Buf (Elt F) ℓ) :
    Storable (upEmb : UEmb _ 𝕄) (ℓ ↦[I]{q} f : sProp 𝕄) := inferInstance

instance pairD_storable (g : Fin 4) (j : Fin 16) : Storable (upEmb : UEmb _ 𝕄) (pairD d L x g j) :=
  @Storable.sep _ _ _ _ _ _ _ _ (pts_storable _ _ _ _) (pts_storable _ _ _ _)
instance outD_storable (g : Fin 4) : Storable (upEmb : UEmb _ 𝕄) (outD d L y x g) :=
  @Storable.sep _ _ _ _ _ _ _ _ (pts_storable _ _ _ _) (pts_storable _ _ _ _)

/-- A pair's credit, and a copy out's. -/
abbrev nPair : ℕ := (cc0_scratch0 : Ref sig .scScalar).dmaCredit S2x512 .f32
abbrev nOut : ℕ := (main_v0_scs : Ref sig .scScalar).dmaCredit S32x512 .f32
abbrev nHead : ℕ := (main_v0_scs : Ref sig .scScalar).dmaCredit S128x512 .f32

theorem nPair_pos : 0 < nPair := View.dmaCredit_pos (dstM 0 0).view (by decide)
theorem nOut_pos : 0 < nOut := View.dmaCredit_pos (outM 0).view (by decide)
theorem nHead_pos : 0 < nHead := View.dmaCredit_pos headDst.view (by decide)

/-- Group `g`'s batch with `k` copies issued and `u` units waited for, -/
abbrev pairB (g : Fin 4) (k u : ℕ) : sProp 𝕄 := Batch EC (thr d L) (.dma (gsem g)) (none : HIx 1) nPair (pairD d L x g) k u
/-- and the copies out's. -/
abbrev outB (k u : ℕ) : sProp 𝕄 := Batch EC (thr d L) (.dma cc0_scratch6.sem) (none : HIx 1) nOut (outD d L y x) k u

/-- What the sequencer owes, `O`, with some waits recorded since `W`, each of the kernel's own. -/
def owed (O : CellTallies nD τ sig (HIx 1)) (W : Waits sig (HIx 1)) : sProp 𝕄 :=
  iprop(∃ W', ⌜∀ p ∈ W', p ∈ W ∨ p.2 = none⌝ ∗ owes (thr d L) O W')

theorem owed_step (O : CellTallies nD τ sig (HIx 1)) (W W' : Waits sig (HIx 1)) (sm : SemLoc sig) (h : ∀ p ∈ W', p ∈ W ∨ p.2 = none) :
    (owes (thr d L) O (insert (sm, none) W') : sProp 𝕄) ⊢ owed d L O W := by
  unfold owed
  iintro HO
  iexists (insert (sm, none) W')
  isplitr
  · ipureintro; intro p hp
    rcases Finset.mem_insert.mp hp with hp | hp
    · exact .inr (congrArg Prod.snd hp)
    · exact h p hp
  iexact HO

variable [FloatOps F]

/-- The sequencer's program, run: the programs here are the kernel's own, and `Q` holds at the end. -/
abbrev runs (k : PR F L) (Q : PUnit.{1} → sProp 𝕄) : sProp 𝕄 := wp frame (wpE (defs₀ (F := F)) Variants.none (thr d L) none) Set.univ k Q

variable (Q : PUnit.{1} → sProp (MT nD τ sig (HIx 1) (Elt F) ℕ UU ℕ))

/-- A loop of steps, each taking `I j` to `I (j + 1)`, takes `I 0` to `I n`. -/
theorem runs_reps (n : ℕ) (I : ℕ → sProp 𝕄) (f : Fin n → PR F L → PR F L)
    (h : ∀ (j : Fin n) (k : PR F L), I j.val ⊢ iprop((I (j.val + 1) -∗ runs d L k Q) -∗ runs d L (f j k) Q)) (k : PR F L) :
    I 0 ⊢ iprop((I n -∗ runs d L k Q) -∗ runs d L (reps n f k) Q) := by
  induction n generalizing I with
  | zero =>
    iintro HI Hk
    iapply Hk
    iexact HI
  | succ n ih =>
    have h0 : I 0 ⊢ iprop((I 1 -∗ runs d L (reps n (fun j => f j.succ) k) Q) -∗ runs d L (reps (n + 1) f k) Q) := h 0 _
    have hs : I 1 ⊢ iprop((I (n + 1) -∗ runs d L k Q) -∗ runs d L (reps n (fun j => f j.succ) k) Q) := ih (fun j => I (j + 1)) (fun j => f j.succ) (fun j k => h j.succ k)
    iintro HI Hk
    iapply h0 $$ [HI]
    · iexact HI
    iintro HI
    iapply hs $$ [HI]
    · iexact HI
    iexact Hk

/-- Some of a family, those numbered below `k`. -/
def upto {n : ℕ} (k : ℕ) : Finset (Fin n) := Finset.univ.filter fun t => t.val < k

omit [FloatOps F] in
theorem upto_zero {n : ℕ} : upto (n := n) 0 = ∅ := by unfold upto; exact Finset.filter_false_of_mem fun _ _ => Nat.not_lt_zero _
omit [FloatOps F] in
theorem upto_all {n : ℕ} : upto (n := n) n = Finset.univ := by unfold upto; exact Finset.filter_true_of_mem fun t _ => t.isLt
omit [FloatOps F] in
theorem bigSep_upto_succ {n : ℕ} (Φ : Fin n → sProp 𝕄) (j : Fin n) :
    bigSep (upto (j.val + 1)) Φ = iprop(Φ j ∗ bigSep (upto j.val) Φ) := by
  rw [show upto (j.val + 1) = insert j (upto j.val) by
      ext t; simp only [upto, Finset.mem_filter, Finset.mem_univ, true_and, Finset.mem_insert, Fin.ext_iff]; omega,
    bigSep_insert (by simp [upto])]
  rfl

/-! ## The first 128 rows -/

/-- The copy of the first rows in flight: it delivers the result's first rows as they are to be, and `layer1`'s back. -/
def headD : sProp 𝕄 :=
  iprop((headDst.view.loc (thr d L) ↦[headDst.view.set]{fullShare} res y x) ∗ headSrc.view.loc (thr d L) ↦[headSrc.view.set]{fullShare} y)
abbrev headF : sProp 𝕄 := Flight EC (thr d L) (.dma cc0_scratch1.sem) (none : HIx 1) nHead (headD d L y x)

/-- The copy of the first rows issued: from its rows of both arrays and its semaphore at zero. -/
theorem head_issue (k : PR F L) (f : S256x512.Idx → Elt F .f32) :
    iprop((headSrc.view.loc (thr d L) ↦[headSrc.view.set]{fullShare} y) ∗ (headDst.view.loc (thr d L) ↦[headDst.view.set]{fullShare} f)
        ∗ semVal (thr d L, .dma cc0_scratch1.sem) 0)
      ⊢ iprop((headF d L y x -∗ runs d L k Q) -∗ runs d L (headIssue L k) Q) := by
  have hl : (headDst.view.loc (thr d L) ↦[headDst.view.set]{fullShare} (headDst.view.write (Elt F) f (headSrc.view.read (Elt F) y) Finset.univ) : sProp 𝕄)
      = headDst.view.loc (thr d L) ↦[headDst.view.set]{fullShare} res y x := pointsTo_congr (fun i hi => head_lands y x f i hi)
  have h := Transfers.wp_dmaLocal EC Variants.none (thr d L) none (defs := defs₀ (F := F)) (src := headSrc) (dst := headDst) (via := .same)
    (sm := .dma cc0_scratch1.sem) (hsrc := View.wordExact_bits rfl) (hdst := View.wordExact_bits rfl) (hsem := ⟨Or.inl rfl, trivial⟩)
    (k := fun _ => k) (Q := Q) (q := fullShare) (fs := y) (fd := f) (none : HIx 1) nHead rfl nHead_pos (Finset.Subset.refl headDst.view.set)
  rw [show (ReadAs.same : ReadAs (Elt F) S128x512 .f32 S128x512 .f32).apply (headSrc.view.read (Elt F) y) = headSrc.view.read (Elt F) y from rfl, hl] at h
  exact h

/-- A pair's copy issued on its group's batch. -/
theorem pair_issue (g : Fin 4) (j : Fin 16) (k : PR F L) (f : S128x512.Idx → Elt F .f32) :
    iprop(srcP d L x g j ∗ dstP d L f g j ∗ pairB d L x g j.val 0)
      ⊢ iprop((pairB d L x g (j.val + 1) 0 -∗ runs d L k Q) -∗ runs d L (pairIssue L g j k) Q) :=
  Transfers.wp_dmaBatch EC Variants.none (thr d L) none (defs := defs₀ (F := F)) (src := srcM g j) (dst := dstM g j) (via := .same)
    (sm := .dma (gsem g)) (hsrc := View.wordExact_bits rfl) (hdst := View.wordExact_bits rfl) (hsem := ⟨Or.inl rfl, trivial⟩)
    (k := fun _ => k) (Q := Q) (q := fullShare) (fs := x) (fd := f) (D := pairD d L x g) (none : HIx 1) nPair rfl
    (Finset.Subset.refl (dstM g j).view.set) j.isLt (Nat.zero_le _)
    (sep_mono_left (Entails.of_eq (pointsTo_congr (fun i hi => pair_lands g j x f i hi))))

/-- A group's copy out issued on the last batch. -/
theorem out_issue (g : Fin 4) (k : PR F L) (f : S256x512.Idx → Elt F .f32) :
    iprop(bufP d L (scr x) g ∗ outP d L f g ∗ outB d L y x g.val 0)
      ⊢ iprop((outB d L y x (g.val + 1) 0 -∗ runs d L k Q) -∗ runs d L (outIssue L g k) Q) :=
  Transfers.wp_dmaBatch EC Variants.none (thr d L) none (defs := defs₀ (F := F)) (src := bufM g) (dst := outM g) (via := .same)
    (sm := .dma cc0_scratch6.sem) (hsrc := View.wordExact_bits rfl) (hdst := View.wordExact_bits rfl) (hsem := ⟨Or.inl rfl, trivial⟩)
    (k := fun _ => k) (Q := Q) (q := fullShare) (fs := scr x) (fd := f) (D := outD d L y x) (none : HIx 1) nOut rfl
    (Finset.Subset.refl (outM g).view.set) g.isLt (Nat.zero_le _)
    (sep_mono_left (Entails.of_eq (pointsTo_congr (fun i hi => out_lands g y x f i hi))))

variable (O : CellTallies nD τ sig (HIx 1)) (W : Waits sig (HIx 1))

/-- The wait for the first rows: both arrays' rows back, the result's as they are to be. -/
theorem head_wait (k : PR F L) :
    iprop(headF d L y x ∗ owed d L O W ∗ MayWaits (thr d L) (none : HIx 1) O)
      ⊢ iprop((iprop(headD d L y x ∗ semVal (thr d L, .dma cc0_scratch1.sem) 0 ∗ owed d L O W) -∗ runs d L k Q) -∗ runs d L (headWait L k) Q) := by
  unfold owed
  iintro ⟨HF, ⟨%W', %hW, HO⟩, Hmw⟩ Hk
  ihave Hm := (MayWaits.elim (SemLoc.dma cc0_scratch1.sem)) $$ Hmw
  have h := Transfers.wp_waitLocalO EC Variants.none (thr d L) none (defs := defs₀ (F := F)) (sem := cc0_scratch1.sem) (srcw := headSrc) (dstw := headDst)
    (hsrc := View.wordExact_bits rfl) (hdst := View.wordExact_bits rfl) (k := fun _ => k) (Q := Q) (none : HIx 1) (N := nHead) rfl
    (D := headD d L y x) (O := O) (W := W')
  iapply h $$ [HF HO Hm]
  · isplitl [HF]; · iexact HF
    isplitl [HO]; · iexact HO
    iexact Hm
  iintro ⟨HD, Hs, HO⟩
  iapply Hk
  isplitl [HD]; · iexact HD
  isplitl [Hs]; · iexact Hs
  have hs := owed_step (F := F) d L O W W' (SemLoc.dma cc0_scratch1.sem) hW
  unfold owed at hs
  iapply hs; iexact HO

/-- One wait on a group's batch, all sixteen of whose copies have been issued. -/
theorem pair_wait (g : Fin 4) (j : Fin 16) (k : PR F L) :
    iprop(pairB d L x g 16 (j.val * nPair) ∗ owed d L O W ∗ MayWaits (thr d L) (none : HIx 1) O)
      ⊢ iprop((iprop(pairB d L x g 16 ((j.val + 1) * nPair) ∗ owed d L O W) -∗ runs d L k Q) -∗ runs d L (pairWait L g j k) Q) := by
  unfold owed
  iintro ⟨HB, ⟨%W', %hW, HO⟩, Hmw⟩ Hk
  ihave Hm := (MayWaits.elim (SemLoc.dma (gsem g))) $$ Hmw
  have hu : j.val * nPair + 1 * nPair ≤ nPair * 16 := by
    rw [← Nat.add_mul, Nat.mul_comm]; exact Nat.mul_le_mul_left _ j.isLt
  have h := Transfers.wp_waitBatchMulO EC Variants.none (thr d L) none (defs := defs₀ (F := F)) (sem := gsem g) (srcw := srcM g j) (dstw := dstM g j)
    (hsrc := View.wordExact_bits rfl) (hdst := View.wordExact_bits rfl) (k := fun _ => k) (Q := Q) (none : HIx 1) (N := nPair) 1 (Nat.one_mul _).symm
    (D := pairD d L x g) (O := O) (W := W') hu
  rw [show j.val * nPair + 1 * nPair = (j.val + 1) * nPair from (Nat.add_mul _ _ _).symm] at h
  iapply h $$ [HB HO Hm]
  · isplitl [HB]; · iexact HB
    isplitl [HO]; · iexact HO
    iexact Hm
  iintro ⟨HB, HO⟩
  iapply Hk
  isplitl [HB]; · iexact HB
  have hs := owed_step (F := F) d L O W W' (SemLoc.dma (gsem g)) hW
  unfold owed at hs
  iapply hs; iexact HO

/-- One wait on the last batch. -/
theorem out_wait (g : Fin 4) (k : PR F L) :
    iprop(outB d L y x 4 (g.val * nOut) ∗ owed d L O W ∗ MayWaits (thr d L) (none : HIx 1) O)
      ⊢ iprop((iprop(outB d L y x 4 ((g.val + 1) * nOut) ∗ owed d L O W) -∗ runs d L k Q) -∗ runs d L (outWait L g k) Q) := by
  unfold owed
  iintro ⟨HB, ⟨%W', %hW, HO⟩, Hmw⟩ Hk
  ihave Hm := (MayWaits.elim (SemLoc.dma cc0_scratch6.sem)) $$ Hmw
  have hu : g.val * nOut + 1 * nOut ≤ nOut * 4 := by
    rw [← Nat.add_mul, Nat.mul_comm]; exact Nat.mul_le_mul_left _ g.isLt
  have h := Transfers.wp_waitBatchMulO EC Variants.none (thr d L) none (defs := defs₀ (F := F)) (sem := cc0_scratch6.sem) (srcw := bufM g) (dstw := outM g)
    (hsrc := View.wordExact_bits rfl) (hdst := View.wordExact_bits rfl) (k := fun _ => k) (Q := Q) (none : HIx 1) (N := nOut) 1 (Nat.one_mul _).symm
    (D := outD d L y x) (O := O) (W := W') hu
  rw [show g.val * nOut + 1 * nOut = (g.val + 1) * nOut from (Nat.add_mul _ _ _).symm] at h
  iapply h $$ [HB HO Hm]
  · isplitl [HB]; · iexact HB
    isplitl [HO]; · iexact HO
    iexact Hm
  iintro ⟨HB, HO⟩
  iapply Hk
  isplitl [HB]; · iexact HB
  have hs := owed_step (F := F) d L O W W' (SemLoc.dma cc0_scratch6.sem) hW
  unfold owed at hs
  iapply hs; iexact HO

/-! ## The loops -/

/-- A group's sixteen copies issued: from its rows of `layer0` and of the scratch and its semaphore at zero, to its batch. -/
theorem group_issue (g : Fin 4) (k : PR F L) (f : S128x512.Idx → Elt F .f32) :
    iprop(semVal (thr d L, .dma (gsem g)) 0 ∗ bigSep Finset.univ (fun j => iprop(srcP d L x g j ∗ dstP d L f g j)))
      ⊢ iprop((pairB d L x g 16 0 -∗ runs d L k Q) -∗ runs d L (reps 16 (pairIssue L g) k) Q) := by
  iintro ⟨Hs, HP⟩ Hk
  imod (Transfers.batch_alloc' EC (thr d L) (sm := .dma (gsem g)) (none : HIx 1) nPair (pairD d L x g)) $$ Hs with HB
  have h := runs_reps d L Q 16 (fun j => iprop(bigSep (pending j) (fun j => iprop(srcP d L x g j ∗ dstP d L f g j)) ∗ pairB d L x g j 0))
    (pairIssue L g) (fun j k => by
      rw [Transfers.bigSep_pending_step _ j.val j.isLt]
      iintro ⟨⟨⟨Hs, Hd⟩, HP⟩, HB⟩ Hk
      iapply (pair_issue d L x Q g j k f) $$ [Hs Hd HB]
      · isplitl [Hs]; · iexact Hs
        isplitl [Hd]; · iexact Hd
        iexact HB
      iintro HB
      iapply Hk
      isplitl [HP] <;> iassumption) k
  iapply h $$ [HP HB]
  · rw [Transfers.pending_zero]
    isplitl [HP] <;> iassumption
  iintro ⟨-, HB⟩
  iapply Hk
  iexact HB

/-- A group drained: its sixteen waits hand back its rows of the scratch as they are to be, its rows of `layer0` and its
    semaphore at zero. -/
theorem group_wait (g : Fin 4) (k : PR F L) :
    iprop(pairB d L x g 16 0 ∗ owed d L O W ∗ MayWaits (thr d L) (none : HIx 1) O)
      ⊢ iprop((iprop(bigSep Finset.univ (pairD d L x g) ∗ semVal (thr d L, .dma (gsem g)) 0 ∗ owed d L O W) -∗ runs d L k Q)
          -∗ runs d L (reps 16 (pairWait L g) k) Q) := by
  iintro ⟨HB, HO, #Hmw⟩ Hk
  have h := runs_reps d L Q 16 (fun j => iprop(pairB d L x g 16 (j * nPair) ∗ owed d L O W ∗ MayWaits (thr d L) (none : HIx 1) O))
    (pairWait L g) (fun j k => by
      iintro ⟨HB, HO, #Hmw⟩ Hk
      iapply (pair_wait d L x Q O W g j k) $$ [HB HO]
      · isplitl [HB]; · iexact HB
        isplitl [HO]; · iexact HO
        iexact Hmw
      iintro ⟨HB, HO⟩
      iapply Hk
      isplitl [HB]; · iexact HB
      isplitl [HO]; · iexact HO
      iexact Hmw) k
  iapply h $$ [HB HO]
  · rw [Nat.zero_mul]
    isplitl [HB]; · iexact HB
    isplitl [HO]; · iexact HO
    iexact Hmw
  rw [Nat.mul_comm 16 nPair]
  iintro ⟨HB, HO, -⟩
  imod (Transfers.batch_collect' EC (thr d L) nPair_pos) $$ HB with ⟨HD, Hs⟩
  iapply Hk
  isplitl [HD]; · iexact HD
  isplitl [Hs] <;> iassumption

/-- The last waits: every group's rows of the result as they are to be, its rows of the scratch back, the semaphore at zero. -/
theorem outs_wait (k : PR F L) :
    iprop(outB d L y x 4 0 ∗ owed d L O W ∗ MayWaits (thr d L) (none : HIx 1) O)
      ⊢ iprop((iprop(bigSep Finset.univ (outD d L y x) ∗ semVal (thr d L, .dma cc0_scratch6.sem) 0 ∗ owed d L O W) -∗ runs d L k Q)
          -∗ runs d L (reps 4 (outWait L) k) Q) := by
  iintro ⟨HB, HO, #Hmw⟩ Hk
  have h := runs_reps d L Q 4 (fun j => iprop(outB d L y x 4 (j * nOut) ∗ owed d L O W ∗ MayWaits (thr d L) (none : HIx 1) O))
    (outWait L) (fun j k => by
      iintro ⟨HB, HO, #Hmw⟩ Hk
      iapply (out_wait d L y x Q O W j k) $$ [HB HO]
      · isplitl [HB]; · iexact HB
        isplitl [HO]; · iexact HO
        iexact Hmw
      iintro ⟨HB, HO⟩
      iapply Hk
      isplitl [HB]; · iexact HB
      isplitl [HO]; · iexact HO
      iexact Hmw) k
  iapply h $$ [HB HO]
  · rw [Nat.zero_mul]
    isplitl [HB]; · iexact HB
    isplitl [HO]; · iexact HO
    iexact Hmw
  rw [Nat.mul_comm 4 nOut]
  iintro ⟨HB, HO, -⟩
  imod (Transfers.batch_collect' EC (thr d L) nOut_pos) $$ HB with ⟨HD, Hs⟩
  iapply Hk
  isplitl [HD]; · iexact HD
  isplitl [Hs] <;> iassumption

end Cert.Proof.Steps

end
-- ==== Proof.Body.lean ====
/-
  The kernel's body run in the program logic: the outer loops over the four groups, then the whole body, from the
  arrays, the scratch and the six semaphores at zero to the same with the result as it is to be.
-/
module

public import proofs.«01_k».proof.Proof.Steps

@[expose] public section

noncomputable section

namespace Cert.Proof.Body

open Cert.KernelIdeal Cert.KernelIdeal.Gen Cert.Proof.Loops Cert.Proof.Rows Cert.Proof.Steps

open Idealize.ShloMosaic
open Idealize.ShloMosaic.SparseCore (S V T)
open Idealize.ShloMosaic.SparseCore.Cfg (HIx)
open Idealize.ShloMosaic.Rounds
open Idealize.ShloMosaic.Transfers (Batch Flight MayWaits pending)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (d : Dev nD) (L : grid0.Coords) (y x : S16384x512.Idx → Elt F .f32) [FloatOps F]
variable (Q : PUnit.{1} → sProp (MT nD τ sig (HIx 1) (Elt F) ℕ UU ℕ))
variable (O : CellTallies nD τ sig (HIx 1)) (W : Waits sig (HIx 1))

/-- What group `g` issues from: its semaphore at zero, its rows of `layer0` and of the scratch. -/
def grpP (f : S128x512.Idx → Elt F .f32) (g : Fin 4) : sProp 𝕄 :=
  iprop(semVal (thr d L, .dma (gsem g)) 0 ∗ bigSep Finset.univ (fun j => iprop(srcP d L x g j ∗ dstP d L f g j)))

/-- What group `g` has back once drained: its semaphore at zero and its rows of `layer0`. -/
def backP (g : Fin 4) : sProp 𝕄 := iprop(semVal (thr d L, .dma (gsem g)) 0 ∗ bigSep Finset.univ (srcP d L x g))

/-- The sixteen pairs' rows of the scratch are the group's. -/
theorem dst_join (f : S128x512.Idx → Elt F .f32) (g : Fin 4) :
    bigSep Finset.univ (dstP d L f g) = bufP d L f g := by
  have h := pointsTo_biUnion (Ix := HIx 1) (Val := Elt F) (Name := ℕ) (U := UU) (Lvl := ℕ) (ℓ := bLoc d L) (q := fullShare) (f := f) Finset.univ (dstSet g)
    (fun j _ j' _ hne => dst_disjoint g j j' hne)
  rw [dst_cover g] at h
  exact h.symm

/-- Every group's copies issued. -/
theorem groups_issue (k : PR F L) (f : S128x512.Idx → Elt F .f32) :
    bigSep Finset.univ (grpP d L x f)
      ⊢ iprop((bigSep Finset.univ (fun g => pairB d L x g 16 0) -∗ runs d L k Q)
          -∗ runs d L (reps 4 (fun g => reps 16 (pairIssue L g)) k) Q) := by
  iintro HP Hk
  have h := runs_reps d L Q 4 (fun j => iprop(bigSep (pending j) (grpP d L x f) ∗ bigSep (upto j) (fun g => pairB d L x g 16 0)))
    (fun g => reps 16 (pairIssue L g)) (fun g k => by
      rw [Transfers.bigSep_pending_step _ g.val g.isLt, bigSep_upto_succ]
      unfold grpP
      iintro ⟨⟨⟨Hs, Hr⟩, HP⟩, HB⟩ Hk
      iapply (group_issue d L x Q g k f) $$ [Hs Hr]
      · isplitl [Hs] <;> iassumption
      iintro HN
      iapply Hk
      isplitl [HP]; · iexact HP
      isplitl [HN] <;> iassumption) k
  iapply h $$ [HP]
  · rw [Transfers.pending_zero, upto_zero, bigSep_empty]
    isplitl [HP]; · iexact HP
    iempintro
  rw [upto_all]
  iintro ⟨-, HB⟩
  iapply Hk
  iexact HB

/-- Every group drained and its copy out issued. -/
theorem groups_drain (k : PR F L) (fo : S256x512.Idx → Elt F .f32) :
    iprop(bigSep Finset.univ (fun g => iprop(pairB d L x g 16 0 ∗ outP d L fo g)) ∗ outB d L y x 0 0 ∗ owed d L O W ∗ MayWaits (thr d L) (none : HIx 1) O)
      ⊢ iprop((iprop(bigSep Finset.univ (backP d L x) ∗ outB d L y x 4 0 ∗ owed d L O W) -∗ runs d L k Q)
          -∗ runs d L (reps 4 (fun g k => reps 16 (pairWait L g) (outIssue L g k)) k) Q) := by
  iintro ⟨HP, HB, HO, #Hmw⟩ Hk
  have h := runs_reps d L Q 4 (fun j => iprop(bigSep (pending j) (fun g => iprop(pairB d L x g 16 0 ∗ outP d L fo g)) ∗ bigSep (upto j) (backP d L x)
      ∗ outB d L y x j 0 ∗ owed d L O W ∗ MayWaits (thr d L) (none : HIx 1) O))
    (fun g k => reps 16 (pairWait L g) (outIssue L g k)) (fun g k => by
      rw [Transfers.bigSep_pending_step _ g.val g.isLt, bigSep_upto_succ]
      iintro ⟨⟨⟨Hp, Ho⟩, HP⟩, HU, HB, HO, #Hmw⟩ Hk
      iapply (group_wait d L x Q O W g (outIssue L g k)) $$ [Hp HO]
      · isplitl [Hp]; · iexact Hp
        isplitl [HO]; · iexact HO
        iexact Hmw
      have hD : bigSep Finset.univ (pairD d L x g) = iprop(bufP d L (scr x) g ∗ bigSep Finset.univ (srcP d L x g)) := by
        rw [← dst_join]; exact bigSep_sep' _ _ _
      rw [hD]
      iintro ⟨⟨Hb, Hr⟩, Hs, HO⟩
      iapply (out_issue d L y x Q g k fo) $$ [Hb Ho HB]
      · isplitl [Hb]; · iexact Hb
        isplitl [Ho] <;> iassumption
      iintro HB
      iapply Hk
      isplitl [HP]; · iexact HP
      isplitl [Hs Hr HU]
      · isplitl [Hs Hr]
        · unfold backP; isplitl [Hs] <;> iassumption
        iexact HU
      isplitl [HB]; · iexact HB
      isplitl [HO]; · iexact HO
      iexact Hmw) k
  iapply h $$ [HP HB HO]
  · rw [Transfers.pending_zero, upto_zero, bigSep_empty]
    isplitl [HP]; · iexact HP
    isplitr; · iempintro
    isplitl [HB]; · iexact HB
    isplitl [HO]; · iexact HO
    iexact Hmw
  rw [upto_all]
  iintro ⟨-, HU, HB, HO, -⟩
  iapply Hk
  isplitl [HU]; · iexact HU
  isplitl [HB] <;> iassumption

/-- The pieces the body starts from: the first rows of `layer1` and of the result, each group's rows and semaphore, the
    result's other rows, and the first and last semaphores at zero. -/
def startP (fo : S256x512.Idx → Elt F .f32) (f : S128x512.Idx → Elt F .f32) : sProp 𝕄 :=
  iprop((headSrc.view.loc (thr d L) ↦[headSrc.view.set]{fullShare} y) ∗ (headDst.view.loc (thr d L) ↦[headDst.view.set]{fullShare} fo)
    ∗ bigSep Finset.univ (grpP d L x f) ∗ bigSep Finset.univ (outP d L fo)
    ∗ semVal (thr d L, .dma cc0_scratch1.sem) 0 ∗ semVal (thr d L, .dma cc0_scratch6.sem) 0)

/-- The pieces it ends with. -/
def endP : sProp 𝕄 :=
  iprop(headD d L y x ∗ bigSep Finset.univ (backP d L x) ∗ bigSep Finset.univ (outD d L y x)
    ∗ semVal (thr d L, .dma cc0_scratch1.sem) 0 ∗ semVal (thr d L, .dma cc0_scratch6.sem) 0)

/-- The whole body: from the pieces to the pieces with the result's rows as they are to be. -/
theorem loops_run (fo : S256x512.Idx → Elt F .f32) (f : S128x512.Idx → Elt F .f32) :
    iprop(startP d L y x fo f ∗ owed d L O W ∗ MayWaits (thr d L) (none : HIx 1) O)
      ⊢ iprop((iprop(endP d L y x ∗ owed d L O W) -∗ Q ⟨⟩) -∗ runs d L (loops L) Q) := by
  unfold startP endP loops
  iintro ⟨⟨Hy, Hh, HG, HR, Hs1, Hs6⟩, HO, #Hmw⟩ Hk
  iapply (head_issue d L y x Q _ fo) $$ [Hy Hh Hs1]
  · isplitl [Hy]; · iexact Hy
    isplitl [Hh] <;> iassumption
  iintro HF
  iapply (groups_issue d L x Q _ f) $$ [HG]
  · iexact HG
  iintro HG
  imod (Transfers.batch_alloc' EC (thr d L) (sm := .dma cc0_scratch6.sem) (none : HIx 1) nOut (outD d L y x)) $$ Hs6 with HB
  iapply (groups_drain d L y x Q O W _ fo) $$ [HG HR HB HO]
  · isplitl [HG HR]
    · rw [bigSep_sep' Finset.univ (fun g => pairB d L x g 16 0) (outP d L fo)]
      isplitl [HG] <;> iassumption
    isplitl [HB]; · iexact HB
    isplitl [HO]; · iexact HO
    iexact Hmw
  iintro ⟨HU, HB, HO⟩
  iapply (head_wait d L y x Q O W _) $$ [HF HO]
  · isplitl [HF]; · iexact HF
    isplitl [HO]; · iexact HO
    iexact Hmw
  iintro ⟨HD, Hs1, HO⟩
  iapply (outs_wait d L y x Q O W _) $$ [HB HO]
  · isplitl [HB]; · iexact HB
    isplitl [HO]; · iexact HO
    iexact Hmw
  iintro ⟨HE, Hs6, HO⟩
  unfold runs
  rw [wp_ret]
  imodintro
  iapply Hk
  isplitr [HO]
  · isplitl [HD]; · iexact HD
    isplitl [HU]; · iexact HU
    isplitl [HE]; · iexact HE
    isplitl [Hs1] <;> iassumption
  iexact HO

end Cert.Proof.Body

end
-- ==== Proof.Whole.lean ====
/-
  The arrays whole against the pieces the loops move: `layer1`, `layer0`, the result and the scratch taken apart
  before the body and put together after it.
-/
module

public import proofs.«01_k».proof.Proof.Body

@[expose] public section

noncomputable section

namespace Cert.Proof.Whole

open Cert.KernelIdeal Cert.KernelIdeal.Gen Cert.Proof.Loops Cert.Proof.Rows Cert.Proof.Steps Cert.Proof.Body

open Idealize.ShloMosaic
open Idealize.ShloMosaic.SparseCore (S V T)
open Idealize.ShloMosaic.SparseCore.Cfg (HIx)
open Idealize.ShloMosaic.Rounds
open Idealize.ShloMosaic.Transfers (Batch Flight MayWaits pending)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (d : Dev nD) (L : grid0.Coords) (y x : S16384x512.Idx → Elt F .f32) [FloatOps F]

/-- Elements held, some of them taken out: two ways of holding the same. -/
theorem take_out {ℓ : Loc nD τ sig} {I J : Finset (Idx ℓ)} (f : Buf (Elt F) ℓ) (h : I ⊆ J) :
    (ℓ ↦[J]{fullShare} f : sProp 𝕄) = iprop((ℓ ↦[I]{fullShare} f) ∗ ℓ ↦[J \ I]{fullShare} f) := by
  have e := pointsTo_split_subset (Ix := HIx 1) (Val := Elt F) (Name := ℕ) (U := UU) (Lvl := ℕ) (ℓ := ℓ) (q := fullShare) (f := f) h
  exact BI.equiv_iff.mp ⟨e.1, e.2⟩

/-- A family of disjoint parts held is their union held. -/
theorem parts {n : ℕ} {ℓ : Loc nD τ sig} (K : Fin n → Finset (Idx ℓ)) (f : Buf (Elt F) ℓ) (h : ∀ a b, a ≠ b → Disjoint (K a) (K b)) :
    (ℓ ↦[Finset.univ.biUnion K]{fullShare} f : sProp 𝕄) = bigSep Finset.univ fun a => ℓ ↦[K a]{fullShare} f :=
  pointsTo_biUnion _ K fun a _ b _ hne => h a b hne

/-- What of `layer1` no copy reads, and of `layer0`. -/
abbrev yRest : sProp 𝕄 := yLoc d ↦[Finset.univ \ topSet]{fullShare} y
abbrev xRest : sProp 𝕄 := xLoc d ↦[Finset.univ \ Finset.univ.biUnion grpSrc]{fullShare} x

theorem y_whole : (yLoc d ↦{fullShare} y : sProp 𝕄) = iprop((headSrc.view.loc (thr d L) ↦[headSrc.view.set]{fullShare} y) ∗ yRest d y) :=
  take_out (ℓ := yLoc d) y (Finset.subset_univ topSet)

theorem x_whole : (xLoc d ↦{fullShare} x : sProp 𝕄)
    = iprop(bigSep Finset.univ (fun g => bigSep Finset.univ (srcP d L x g)) ∗ xRest d x) := by
  rw [take_out (ℓ := xLoc d) x (Finset.subset_univ (Finset.univ.biUnion grpSrc)), parts (ℓ := xLoc d) grpSrc x grpSrc_disjoint]
  congr 1
  exact bigSep_congr fun g _ => parts (ℓ := xLoc d) (srcSet g) x (src_disjoint g)

theorem b_whole (f : S128x512.Idx → Elt F .f32) : (bLoc d L ↦{fullShare} f : sProp 𝕄) = bigSep Finset.univ (bufP d L f) := by
  have h := parts (ℓ := bLoc d L) bufSet f buf_disjoint
  rw [buf_cover] at h
  exact h

theorem b_pairs (f : S128x512.Idx → Elt F .f32) : (bLoc d L ↦{fullShare} f : sProp 𝕄)
    = bigSep Finset.univ (fun g => bigSep Finset.univ (dstP d L f g)) := by
  rw [b_whole]; exact bigSep_congr fun g _ => (dst_join d L f g).symm

theorem o_whole (f : S256x512.Idx → Elt F .f32) : (oLoc d ↦{fullShare} f : sProp 𝕄)
    = iprop((headDst.view.loc (thr d L) ↦[headDst.view.set]{fullShare} f) ∗ bigSep Finset.univ (outP d L f)) := by
  have h := pointsTo_union (Ix := HIx 1) (Val := Elt F) (Name := ℕ) (U := UU) (Lvl := ℕ) (ℓ := oLoc d) (q := fullShare) (f := f) head_disjoint
  have e := BI.equiv_iff.mp ⟨h.1, h.2⟩
  rw [out_cover, parts (ℓ := oLoc d) outSet f out_disjoint] at e
  exact e

/-- The six semaphores at zero: the first rows' copy's, the four groups' and the copies out's. -/
def cells0 : sProp 𝕄 :=
  iprop(semVal (thr d L, .dma cc0_scratch1.sem) 0 ∗ bigSep Finset.univ (fun g => semVal (thr d L, .dma (gsem g)) 0)
    ∗ semVal (thr d L, .dma cc0_scratch6.sem) 0)

/-- What the body never touches. -/
def restP : sProp 𝕄 := iprop(yRest d y ∗ xRest d x)

theorem grpP_all (f : S128x512.Idx → Elt F .f32) : bigSep Finset.univ (grpP d L x f)
    = iprop(bigSep Finset.univ (fun g => (semVal (thr d L, .dma (gsem g)) 0 : sProp 𝕄))
        ∗ bigSep Finset.univ (fun g => bigSep Finset.univ (srcP d L x g)) ∗ bigSep Finset.univ (fun g => bigSep Finset.univ (dstP d L f g))) := by
  unfold grpP
  rw [bigSep_sep', bigSep_congr (fun g _ => bigSep_sep' Finset.univ (srcP d L x g) (dstP d L f g)), bigSep_sep']

theorem backP_all : bigSep Finset.univ (backP d L x)
    = iprop(bigSep Finset.univ (fun g => (semVal (thr d L, .dma (gsem g)) 0 : sProp 𝕄)) ∗ bigSep Finset.univ (fun g => bigSep Finset.univ (srcP d L x g))) := by
  unfold backP
  rw [bigSep_sep']

/-- Before the body: the arrays, the scratch and the semaphores are the pieces it starts from. -/
theorem apart (fo : S256x512.Idx → Elt F .f32) (f : S128x512.Idx → Elt F .f32) :
    iprop((yLoc d ↦{fullShare} y) ∗ (xLoc d ↦{fullShare} x) ∗ (oLoc d ↦{fullShare} fo) ∗ (bLoc d L ↦{fullShare} f) ∗ cells0 d L)
      ⊢ (iprop(startP d L y x fo f ∗ restP d y x) : sProp 𝕄) := by
  unfold startP cells0 restP
  rw [grpP_all, y_whole d L, x_whole d L, o_whole d L, b_pairs]
  iintro ⟨⟨Hy, Hyr⟩, ⟨Hx, Hxr⟩, ⟨Hh, Ho⟩, Hb, Hs1, Hg, Hs6⟩
  isplitr [Hyr Hxr]
  · isplitl [Hy]; · iexact Hy
    isplitl [Hh]; · iexact Hh
    isplitl [Hg Hx Hb]
    · isplitl [Hg]; · iexact Hg
      isplitl [Hx] <;> iassumption
    isplitl [Ho]; · iexact Ho
    isplitl [Hs1] <;> iassumption
  isplitl [Hyr] <;> iassumption

/-- After it: the pieces it ends with are the arrays with the result as it is to be, the scratch and the semaphores. -/
theorem together :
    iprop(endP d L y x ∗ restP d y x)
      ⊢ (iprop((yLoc d ↦{fullShare} y) ∗ (xLoc d ↦{fullShare} x) ∗ (oLoc d ↦{fullShare} res y x) ∗ (bLoc d L ↦{fullShare} scr x) ∗ cells0 d L) : sProp 𝕄) := by
  unfold endP cells0 restP headD outD
  rw [backP_all, bigSep_sep' Finset.univ (outP d L (res y x)) (bufP d L (scr x)), y_whole d L, x_whole d L, o_whole d L, b_whole]
  iintro ⟨⟨⟨Hh, Hy⟩, ⟨Hg, Hx⟩, ⟨Ho, Hb⟩, Hs1, Hs6⟩, Hyr, Hxr⟩
  isplitl [Hy Hyr]; · isplitl [Hy] <;> iassumption
  isplitl [Hx Hxr]; · isplitl [Hx] <;> iassumption
  isplitl [Hh Ho]
  · isplitl [Hh]; · iexact Hh
    iexact Ho
  isplitl [Hb]; · iexact Hb
  isplitl [Hs1]; · iexact Hs1
  isplitl [Hg]; · iexact Hg
  iexact Hs6

end Cert.Proof.Whole

end
-- ==== Proof.Launch.lean ====
/-
  The program's run, over any float values: from any launch memory every execution ends with both arguments as
  they were, the result the reference's selection of their rows, and every semaphore counter back at zero.
-/
module

public import proofs.«01_k».proof.Proof.Whole

@[expose] public section

noncomputable section

namespace Cert.Proof.Launch

open Cert.KernelIdeal Cert.KernelIdeal.Gen Cert.Proof.Loops Cert.Proof.Rows Cert.Proof.Steps Cert.Proof.Body Cert.Proof.Whole

open Idealize.ShloMosaic
open Idealize.ShloMosaic.SparseCore (S V T)
open Idealize.ShloMosaic.SparseCore.Cfg (HIx Pay ownBufs ownSems0 ownCells ownRefs mem_ownCells mem_ownRefs)
open Idealize.ShloMosaic.Rounds
open Idealize.ShloMosaic.Transfers (MayWaits)
open Idealize.SL Idealize.SL.RA Idealize.SL.BI
open scoped Idealize.SL.BI
open Idealize.SL.BI.BIBase Idealize.SL.BI.Laws Idealize.SL.ProofMode Idealize.SL.Sem

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := Variants.none.lift
abbrev v₀ : 𝒱.V := Sum.inl none

/-- The launch semaphores are distinct and none of the processors' own, and no buffer is shared by tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

/-- The handshakes' rounds. -/
abbrev EH : Emb UH (MT nD τ sig (HIx 1) (Elt F) ℕ UU ℕ) := embL

variable (m : (ℓ : Loc nD τ sig) → Buf (Elt F) ℓ) (ρ : Dev nD → PrngReg) [FloatOps F]

/-- What the result is to hold on device `d`. -/
abbrev want (d : Dev nD) : S256x512.Idx → Elt F .f32 := res (m (yLoc d)) (m (xLoc d))

/-- The arguments whole at their launch contents, the result whole at `f`. -/
abbrev yPts (d : Dev nD) : sProp 𝕄 := yLoc d ↦{fullShare} m (yLoc d)
abbrev xPts (d : Dev nD) : sProp 𝕄 := xLoc d ↦{fullShare} m (xLoc d)
abbrev oPts (d : Dev nD) (f : S256x512.Idx → Elt F .f32) : sProp 𝕄 := oLoc d ↦{fullShare} f

/-- The call takes the three arrays to SparseCore 0's sequencer and brings them back, the result as it is to be. -/
def P : (K (F := F)).Pay (nD := nD) (Val := Elt F) (Name := ℕ) (U := UU) where
  st := fun _ d _ => iprop(yPts m d ∗ xPts m d ∗ ∃ f, oPts d f)
  dn := fun _ d _ => iprop(yPts m d ∗ xPts m d ∗ oPts d (want m d))
  go := fun _ _ _ _ => iprop(emp)
  td := fun _ _ _ _ => iprop(emp)
  x := fun _ _ => iprop(emp)

instance P_storable : (P (F := F) m).IsStorable where
  st _ d _ := (inferInstance : BI.Storable (upEmb : UEmb _ 𝕄) iprop(yPts m d ∗ xPts m d ∗ ∃ f, oPts d f))
  dn _ d _ := (inferInstance : BI.Storable (upEmb : UEmb _ 𝕄) iprop(yPts m d ∗ xPts m d ∗ oPts d (want m d)))
  go _ _ _ _ := (inferInstance : BI.Storable (upEmb : UEmb _ 𝕄) (iprop(emp) : sProp 𝕄))
  td _ _ _ _ := (inferInstance : BI.Storable (upEmb : UEmb _ 𝕄) (iprop(emp) : sProp 𝕄))

/-! ## The sequencer's own scratch and semaphores -/

section Own

variable (d : Dev nD) (L : grid0.Coords)

/-- The kernel's six semaphores on the sequencer. -/
abbrev cell (k : Fin 6) : GSem nD τ sig := (thr d L, .dma (k : DmaSem sig))

omit [FloatOps F] in
theorem cell_mem (k : Fin 6) : cell d L k ∈ ownCells (thr d L) :=
  mem_ownCells.mpr ⟨rfl, (show ∀ s : DmaSem sig, (SemLoc.dma s : SemLoc sig).isScoped .scScalar = true by decide) _⟩

omit [FloatOps F] in
theorem cell_inj : Set.InjOn (cell d L) (Finset.univ : Finset (Fin 6)) := fun _ _ _ _ h => SemLoc.dma.inj (Prod.mk.inj h).2

omit [FloatOps F] in
theorem swap (A B C : sProp 𝕄) : iprop(A ∗ B ∗ C) = iprop(A ∗ C ∗ B) := by
  have h (B C : sProp 𝕄) : iprop(A ∗ B ∗ C) ⊢ iprop(A ∗ C ∗ B) := by
    iintro ⟨HA, HB, HC⟩
    isplitl [HA]; · iexact HA
    isplitl [HC] <;> iassumption
  exact BI.equiv_iff.mp ⟨h B C, h C B⟩

/-- The sequencer's own semaphores at zero: the kernel's six, and the others. -/
theorem sems_open : (ownSems0 (thr d L) : sProp 𝕄)
    = iprop(cells0 d L ∗ bigSep (ownCells (thr d L) \ Finset.univ.image (cell d L)) fun g => semVal g 0) := by
  unfold SparseCore.Cfg.ownSems0 cells0
  rw [SparseCore.bigSep_sdiff_split' (t := Finset.univ.image (cell d L)) (Finset.image_subset_iff.mpr fun k _ => cell_mem d L k),
    SparseCore.bigSep_image_of_injOn (cell_inj d L)]
  congr 1
  rw [show (Finset.univ : Finset (Fin 6)) = insert 0 (insert 5 ((Finset.univ : Finset (Fin 4)).image fun g => ⟨1 + g.val, by omega⟩)) by decide,
    SparseCore.bigSep_insert' (by decide), SparseCore.bigSep_insert' (by decide),
    SparseCore.bigSep_image_of_injOn (fun a _ b _ h => Fin.ext (Nat.add_left_cancel (Fin.mk.inj h)))]
  exact swap _ _ _

omit [FloatOps F] in
/-- The sequencer's own buffers: the scratch at something, and the others. -/
theorem bufs_open : (ownBufs (thr d L) : sProp 𝕄)
    = iprop((∃ f, bLoc d L ↦{fullShare} f)
        ∗ bigSep ((ownRefs (τ := τ) (thr d L).2).erase ((thr d L).2.devRef cc0_scratch0)) fun b => iprop(∃ f, ((d, b) : Loc nD τ sig) ↦{fullShare} f)) := by
  unfold SparseCore.Cfg.ownBufs
  exact SparseCore.bigSep_erase' ((mem_ownRefs (p := (thr d L).2) (b := (thr d L).2.devRef cc0_scratch0)).mpr rfl)

/-- The kernel on the sequencer: from the arrays and the sequencer's own buffers and semaphores, to the same with the
    result as it is to be. -/
theorem seq_run (hF : (K (F := F)).Facts) (O : CellTallies nD τ sig (HIx 1)) (W : Waits sig (HIx 1)) (hO : ∀ g, O g none = 0) :
    iprop(levAts (K (F := F)).L (K (F := F)).lev ∗ emp ∗ (yPts m d ∗ xPts m d ∗ ∃ f, oPts d f)
        ∗ scopedBufs (thr d L) ∗ scopedSems0 (thr d L) ∗ owes (thr d L) O W)
      ⊢ runs d L (loops L) fun _ => iprop((yPts m d ∗ xPts m d ∗ oPts d (want m d)) ∗ scopedBufs (thr d L) ∗ scopedSems0 (thr d L)
          ∗ ∃ W', ⌜∀ p ∈ W', p ∈ W ∨ p.2 = none ∨ p.2 = some (0 : Fin 1)⌝ ∗ owes (thr d L) O W') := by
  rw [(K (F := F)).scopedBufs_S hF d _, SparseCore.Cfg.scopedSems0_S (Val := Elt F) d _, sems_open, bufs_open]
  iintro ⟨#Hlv, -, ⟨Hy, Hx, %fo, Ho⟩, ⟨⟨⟨%f, Hb⟩, Hbufs⟩, Htb⟩, ⟨⟨Hc, Hsems⟩, Hts⟩, HO⟩
  ihave Hmw := ((K (F := F)).mayWaits_none (thr := thr d L) hO) $$ Hlv
  ihave Hp := (apart d L (m (yLoc d)) (m (xLoc d)) fo f) $$ [Hy Hx Ho Hb Hc]
  · isplitl [Hy]; · iexact Hy
    isplitl [Hx]; · iexact Hx
    isplitl [Ho]; · iexact Ho
    isplitl [Hb]; · iexact Hb
    iexact Hc
  icases Hp with ⟨Hp, Hr⟩
  iapply (loops_run d L (m (yLoc d)) (m (xLoc d)) _ O W fo f) $$ [Hp HO Hmw]
  · isplitl [Hp]; · iexact Hp
    isplitl [HO]
    · unfold Steps.owed
      iexists W
      isplitr
      · ipureintro; exact fun p hp => .inl hp
      iexact HO
    iexact Hmw
  iintro ⟨He, HO⟩
  ihave Hw := (together d L (m (yLoc d)) (m (xLoc d))) $$ [He Hr]
  · isplitl [He] <;> iassumption
  icases Hw with ⟨Hy, Hx, Ho, Hb, Hc⟩
  isplitl [Hy Hx Ho]
  · isplitl [Hy]; · iexact Hy
    isplitl [Hx]; · iexact Hx
    iexact Ho
  isplitl [Hb Hbufs Htb]
  · isplitl [Hb Hbufs]
    · isplitl [Hb]; · iexists _; iexact Hb
      iexact Hbufs
    iexact Htb
  isplitl [Hc Hsems Hts]
  · isplitl [Hc Hsems]
    · isplitl [Hc]; · iexact Hc
      iexact Hsems
    iexact Hts
  unfold Steps.owed
  icases HO with ⟨%W', %hW, HO⟩
  iexists W'
  isplitr
  · ipureintro; exact fun p hp => (hW p hp).imp_right Or.inl
  iexact HO

end Own

/-! ## The launch -/

def at0 (c : Fin (grid0.bound 0)) : grid0.Coords := fun | 0 => c | ⟨_ + 1, h⟩ => absurd h (Nat.not_lt.2 (Nat.le_add_left _ _))

/-- The sequencer's body at a grid point, as printed. -/
@[irreducible] def printed (c : Fin (grid0.bound 0)) : PR F (at0 c) :=
  cc0__body (at0 c) (Memref.whole main_arg0_scs) (Memref.isWhole_whole _) (Memref.whole main_arg1_scs) (Memref.isWhole_whole _)
    (Memref.whole main_v0_scs) (Memref.isWhole_whole _) (Memref.whole cc0_scratch0) (Memref.isWhole_whole _)
    cc0_scratch1 cc0_scratch2 cc0_scratch3 cc0_scratch4 cc0_scratch5 cc0_scratch6

theorem defs_scalar (c : Fin τ.nSC) : defs₀ (F := F) (.scScalar c) 0 () = SparseCore.onCore hcore0 printed ⟨⟩ c := by
  unfold printed; rfl

/-- It is the loops. -/
theorem printed_eq (c : Fin (grid0.bound 0)) : printed (F := F) c = loops (at0 c) := by
  unfold printed; exact body_eq_loops (at0 c)

/-- SparseCore 0's sequencer does its part of the call. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) Variants.none _ Set.univ none _ _)
  have hc : ((K (F := F)).core 0 c).val < grid0.bound 0 := c.isLt
  rw [defs_scalar]; simp only [SparseCore.onCore, hc, ↓reduceDIte]
  match c with
  | ⟨0, h⟩ =>
    have r := seq_run m d (at0 ⟨0, h⟩) facts O W hO
    rw [← printed_eq] at r
    exact r

def u₀ : UU := (initOf (K (F := F)).hsCells (K (F := F)).hsToks, 1)

omit [FloatOps F] in
theorem emps {I : Type} (s : Finset I) : (bigSep s fun _ => iprop(emp)) = (iprop(emp) : sProp 𝕄) := bigSep_emp_const s

/-- The launch's ghost state: the handshakes' rounds; the kernel has nothing of its own. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

omit [FloatOps F] in
theorem arrays_eq (d : Dev nD) (W : (b : Ref sig .tc) → Buf (Elt F) ((d.tc : Thread nD τ).loc b)) :
    (unscopedBufs d W : sProp 𝕄)
      = iprop((yLoc d ↦{fullShare} W main_arg0) ∗ (xLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st_eq (d : Dev nD) : (bigSep Finset.univ fun c : Fin ((K (F := F)).nCore 0) => (P m).st 0 d c) = iprop(yPts m d ∗ xPts m d ∗ ∃ f, oPts d f) :=
  bigSep_univ_of_subsingleton (0 : Fin 1)
theorem dn_eq (d : Dev nD) : (bigSep Finset.univ fun c : Fin ((K (F := F)).nCore 0) => (P m).dn 0 d c) = iprop(yPts m d ∗ xPts m d ∗ oPts d (want m d)) :=
  bigSep_univ_of_subsingleton (0 : Fin 1)

/-- What the program leaves: the arguments as they were, the result as it is to be. -/
abbrev FIN (d : Dev nD) : sProp 𝕄 := iprop(yPts m d ∗ xPts m d ∗ oPts d (want m d))

/-- The program on device `d`'s TensorCore is its one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [arrays_eq]
  simp only [main, wp_bind, wp_pure]
  iintro ⟨#Hctx, Hst, ⟨Hb, ⟨Hy, Hx, Ho⟩, Hts, -⟩, -⟩
  iapply ((K (F := F)).wp_run (D (F := F)) 𝒱 (EH := EH) (P := P m) κ d 0) $$ [Hst Hy Hx Ho Hb Hts]
  isplitr; · iexact Hctx
  isplitl [Hst]; · iexact Hst
  isplitl [Hy Hx Ho]
  · rw [st_eq]
    isplitl [Hy]; · iexact Hy
    isplitl [Hx]; · iexact Hx
    iexists _; iexact Ho
  iintro ⟨Hst, Hdn⟩
  ihave Hdn := (Entails.of_eq (dn_eq m d)) $$ Hdn
  imodintro
  isplitl [Hst]; · iexact Hst
  isplitl [Hdn]; · iexact Hdn
  isplitl [Hb] <;> iassumption

/-- What the final memory holds on device `d`. -/
def fq (d : Dev nD) (s' : Phys nD τ sig (Elt F)) : Prop :=
  s'.mem.mem (oLoc d) = want m d ∧ s'.mem.mem (yLoc d) = m (yLoc d) ∧ s'.mem.mem (xLoc d) = m (xLoc d)

omit [FloatOps F] in
/-- An array held whole is what the memory has there. -/
theorem reads (s' : Phys nD τ sig (Elt F)) (ℓ : Loc nD τ sig) (f : Buf (Elt F) ℓ) :
    iprop(SI s' ∗ ℓ ↦{fullShare} f) ⊢ (iprop(⌜s'.mem.mem ℓ = f⌝ ∗ SI s' ∗ ℓ ↦{fullShare} f) : sProp 𝕄) := by
  iintro H
  ihave H := (persistent_entails_right (SI_pointsTo_agree (st := s') (ℓ := ℓ) (I := Finset.univ) (q := fullShare) (f := f))) $$ H
  icases H with ⟨%h, H⟩
  isplitr
  · ipureintro; exact funext fun i => h i (Finset.mem_univ i)
  iexact H

theorem hfin (d : Dev nD) (s' : Phys nD τ sig (Elt F)) : iprop(FIN m d ∗ SI s') ⊢ (⌜fq m d s'⌝ : sProp 𝕄) := by
  iintro ⟨⟨Hy, Hx, Ho⟩, HSI⟩
  ihave H := (reads s' (yLoc d) _) $$ [HSI Hy]
  · isplitl [HSI] <;> iassumption
  icases H with ⟨%hy, HSI, -⟩
  ihave H := (reads s' (xLoc d) _) $$ [HSI Hx]
  · isplitl [HSI] <;> iassumption
  icases H with ⟨%hx, HSI, -⟩
  ihave H := (reads s' (oLoc d) _) $$ [HSI Ho]
  · isplitl [HSI] <;> iassumption
  icases H with ⟨%ho, -⟩
  ipureintro; exact ⟨ho, hy, hx⟩

/-- What holds at the end: on every device the result is the selection of the arguments' rows, the arguments are as they
    were, and every semaphore counter is zero. -/
def QC : PUnit × MemSt nD τ sig (Elt F) → Prop := fun r =>
  (∀ c : Dev nD, r.2.mem (oLoc c) = want m c ∧ r.2.mem (yLoc c) = m (yLoc c) ∧ r.2.mem (xLoc c) = m (xLoc c)) ∧ r.2.sem = fun _ => 0

/-- The run: every execution from `m` ends, with nothing faulting, in `QC`. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h hz => ⟨h, hz⟩)

end Cert.Proof.Launch

end
-- ==== Proof.Ref.lean ====
/-
  What the reference computes: its result is `res layer1 layer0`. The reference takes `layer0`'s rows by a table of
  128 row numbers, kept as a column; a number below zero would be wrapped and a row out of range masked, and neither
  happens, since each number lies between 0 and 16383.
-/
module

public import proofs.«01_k».proof.Proof.Launch
public import proofs.«01_k».proof.Proof.Gen.ReferenceIdeal.Run
public import Idealize.ShloMosaic.Lib.Pipeline.Value
public import Idealize.ShloMosaic.Lib.ReduceAll
public import Idealize.ShloMosaic.Lib.Routing.Ops

@[expose] public section

noncomputable section

namespace Cert.Proof.Ref

open Cert.ReferenceIdeal Cert.ReferenceIdeal.Gen Idealize.ShloMosaic Idealize.SL.Sem

/-! ## The table of row numbers -/

/-- Entry `r` of the table is `pick r`, -/
theorem table_pick (r : Fin 128) : lit0 r = BitVec.ofNat 32 (Rows.pick r.val) := by
  revert r; decide +kernel
/-- it is not below zero, -/
theorem table_slt (r : Fin 128) : IntOp.cmpi .slt (lit0 r) 0#32 = 0#1 := by
  revert r; decide +kernel
/-- and it is a row of `layer0`. -/
theorem table_range (r : Fin 128) : IntOp.andi (IntOp.cmpi .sge (lit0 r) 0#32) (IntOp.cmpi .sle (lit0 r) 16383#32) = 1#1 := by
  revert r; decide +kernel

/-- The table as an array. -/
abbrev table : IVec S128 32 := fun i => lit0 (S128.rowMajor i)

theorem table_apply (r : Fin 128) : table (ValueIdx.ix1 r) = lit0 r :=
  congrArg lit0 (Fin.ext (Shape.rowMajor_val_one (ValueIdx.ix1 r)))

/-- The table with the numbers below zero wrapped, -/
abbrev wrapped : IVec S128 32 :=
  select (cmpi .slt table (broadcastInDim S128 ![] bcast_S_S128 (constantI S_ 32 0#32)))
    (addi table (broadcastInDim S128 ![] bcast_S_S128 (constantI S_ 32 16384#32))) table

/-- which wraps none. -/
theorem wrapped_apply (r : Fin 128) : wrapped (ValueIdx.ix1 r) = lit0 r := by
  show Scalar.select (IntOp.cmpi .slt (table (ValueIdx.ix1 r)) 0#32) _ (table (ValueIdx.ix1 r)) = _
  rw [table_apply, table_slt]
  rfl

/-- The column of row numbers the reference reads at. -/
abbrev column : IVec S128x1 32 := broadcastInDim S128x1 ![0] bcast_S128_S128x1_0 wrapped

/-- Row `r` of the column is the table's entry `r`. -/
theorem column_apply (k : S128x1.Idx) : column k = lit0 (k 0) :=
  (broadcastInDim_apply _ _ _ k (ValueIdx.ix1 (n := 128) (k 0)) fun a => by
    obtain rfl : a = 0 := Subsingleton.elim _ _
    rfl).trans (wrapped_apply (k 0))

/-! ## The taken rows -/

/-- Where the row numbers are rows of `layer0`. -/
abbrev inRange : IVec S128 1 :=
  Host.reduce IntOp.andi (andi (cmpi .sge column (broadcastInDim S128x1 ![] bcast_S_S128x1 (constantI S_ 32 0#32)))
    (cmpi .sle column (broadcastInDim S128x1 ![0, 1] bcast_S1x1_S128x1_0_1 (broadcastInDim S1x1 ![1] bcast_S1_S1x1_1 (constantI S1 32 16383#32)))))
    (constantI S_ 1 1#1) reducesTo_S128x1_S128_d1 h_S_

/-- They all are. -/
theorem inRange_one (i : S128.Idx) : inRange i = 1#1 :=
  Host.reduce_andi_one _ _ _ _ i rfl fun k => by
    show IntOp.andi (IntOp.cmpi .sge (column k) 0#32) (IntOp.cmpi .sle (column k) 16383#32) = 1#1
    rw [column_apply]
    exact table_range _

variable {F : FTy → Type} [FloatOps F]

/-- The reference's taken rows of `layer0` (`x`): the gathered row where its number is in range, else the fill. -/
abbrev taken (x : S16384x512.Idx → Elt F .f32) : S128x512.Idx → Elt F .f32 :=
  select (broadcastInDim S128x512 ![0] bcast_S128_S128x512_0 inRange)
    (Host.gather gather_S16384x512_S128x1_S128x512_1_0_n_n_0_1_1512 x column)
    (broadcastInDim S128x512 ![] bcast_S_S128x512 (constant S_ .f32 0x7FC00000#32))

/-- Taken row `r` is row `pick r` of `layer0`: what the kernel's scratch is to hold. -/
theorem taken_eq (x : S16384x512.Idx → Elt F .f32) : taken x = Rows.scr x := funext fun i => by
  obtain ⟨r, q, rfl⟩ : ∃ (r : Fin 128) (q : Fin 512), i = ValueIdx.ix2 r q := ⟨i 0, i 1, ValueIdx.eq_ix2 i⟩
  show Scalar.select (inRange _) _ _ = _
  rw [inRange_one]
  exact Routing.gather_row _ rfl rfl rfl rfl rfl x column r q ⟨Rows.pick r.val, Rows.pick_lt r.isLt⟩
    ((column_apply _).trans (table_pick r)) (by decide)

/-! ## The result -/

/-- The reference's result at arguments `y` (`layer1`) and `x` (`layer0`): the first 128 rows of `y`, then the taken rows of `x`. -/
abbrev out (y x : S16384x512.Idx → Elt F .f32) : S256x512.Idx → Elt F .f32 :=
  concatenate S256x512 0 [⟨S128x512, extractStridedSlice S128x512 ![0, 0] y slices_S16384x512_S128x512_0_0⟩, ⟨S128x512, taken x⟩]
    concatenates_S128x512_S128x512_S256x512_d0

/-- It is what the kernel is to leave. -/
theorem out_eq (y x : S16384x512.Idx → Elt F .f32) : out y x = Rows.res y x := funext fun i => by
  have h256 : (i 0).val < 256 := (i 0).isLt
  unfold Rows.res
  by_cases h : (i 0).val < 128
  · rw [dif_pos h]
    refine (concatenate_pair_apply_left (s₁ := S128x512) (s₂ := S128x512) _ _ _ _ i rfl (ValueIdx.ix2 (⟨(i 0).val, h⟩ : Fin 128) (i 1 : Fin 512)) fun b => ?_).trans ?_
    · fin_cases b <;> rfl
    · refine extractStridedSlice_apply _ _ _ _ _ fun a => ?_
      fin_cases a <;> exact (Nat.zero_add _).symm
  · rw [dif_neg h, out, taken_eq]
    refine (concatenate_pair_apply_right (s₁ := S128x512) (s₂ := S128x512) _ _ _ _ i rfl rfl (ValueIdx.ix2 (⟨(i 0).val - 128, by omega⟩ : Fin 128) (i 1 : Fin 512))
      (fun b hb => ?_) ?_).trans rfl
    · fin_cases b
      · exact absurd rfl hb
      · rfl
    · show (i 0).val - 128 + 128 = (i 0).val
      omega

/-- The reference's run, over any float values: the result is `res layer1 layer0`, both arguments are as they were, and
    every semaphore counter is zero. -/
theorem run_ref (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_v2) = Rows.res (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h c).1.trans (out_eq _ _), (h c).2⟩, sem_eq_zero_of_no_sems (by decide) r.2⟩)
    (Value.run (F := F) m ρ)

end Cert.Proof.Ref

end
-- ==== Proof.lean ====
module

public import proofs.«01_k».proof.Defs
public import proofs.«01_k».proof.Proof.Ref
public import proofs.«01_k».proof.Proof.Gen.Kernel
public import proofs.«01_k».proof.Proof.Gen.Reference
public import Idealize.ShloMosaic.Init

@[expose] public section

noncomputable section

namespace Cert.Proof

open Idealize.ShloMosaic Idealize.SL.Sem

/-- The kernel runs, leaves its arguments and ends with every counter at zero, on bit patterns. -/
theorem frame_kernel : Cert.quiescent_Kernel := fun m ρ _ =>
  (θ_run Cert.KernelIdeal.defs _ _).mono (fun _ h => ⟨fun c => (h.1 c).2, h.2⟩) (Launch.run_main (F := Bits) m ρ)

/-- The same over extended reals. -/
theorem frame_ideal : Cert.quiescent_KernelIdeal := fun m ρ _ =>
  (θ_run Cert.KernelIdeal.defs _ _).mono (fun _ h => ⟨fun c => (h.1 c).2, h.2⟩) (Launch.run_main (F := Ideal) m ρ)

/-- The reference runs, leaves its arguments and ends with every counter at zero, over extended reals. -/
theorem frame_ref_ideal : Cert.quiescent_ReferenceIdeal := fun m ρ _ =>
  (θ_run Cert.ReferenceIdeal.defs _ _).mono (fun _ h => ⟨fun c => (h.1 c).2, h.2⟩) (Ref.run_ref (F := Ideal) m ρ)

/-- The same on bit patterns. -/
theorem frame_ref : Cert.quiescent_Reference := fun m ρ _ =>
  (θ_run Cert.ReferenceIdeal.defs _ _).mono (fun _ h => ⟨fun c => (h.1 c).2, h.2⟩) (Ref.run_ref (F := Bits) m ρ)

/-- At equal arguments the two results are equal, over extended reals. -/
theorem algebraic : Cert.algebraic_KernelIdeal_ReferenceIdeal := fun m ρ m' ρ' _ hargs =>
  ⟨Launch.want m, (θ_run Cert.KernelIdeal.defs _ _).mono (fun _ h => h.1) (Launch.run_main (F := Ideal) m ρ),
    (θ_run Cert.ReferenceIdeal.defs _ _).mono (fun _ h c => ⟨(h.1 c).1.trans (congrArg₂ Rows.res (hargs c).1 (hargs c).2), (h.1 c).2⟩)
      (Ref.run_ref (F := Ideal) m' ρ')⟩

/-- At equal arguments the two results are equal, bit for bit. -/
theorem bitexact : Cert.bitexact_Kernel_Reference := fun m ρ m' ρ' _ hargs =>
  ⟨Launch.want m, (θ_run Cert.KernelIdeal.defs _ _).mono (fun _ h => h.1) (Launch.run_main (F := Bits) m ρ),
    (θ_run Cert.ReferenceIdeal.defs _ _).mono (fun _ h c => ⟨(h.1 c).1.trans (congrArg₂ Rows.res (hargs c).1 (hargs c).2), (h.1 c).2⟩)
      (Ref.run_ref (F := Bits) m' ρ')⟩

theorem claim : Cert.Claim := ⟨Cert.Kernel.Gen.facts, Cert.KernelIdeal.Gen.facts, Cert.ReferenceIdeal.Gen.facts, Cert.Reference.Gen.facts,
  frame_kernel, frame_ideal, frame_ref_ideal, frame_ref, trivial, algebraic, bitexact⟩

end Cert.Proof

end
